-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.PackStatement Cert.KernelIdeal.S21x768
  ∧ IdealRules.bf16_pair.Statement Cert.KernelIdeal.S256x768 Cert.KernelIdeal.S128x768

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x1x5376 : Shape := ⟨3, ![24, 1, 5376]⟩
abbrev S5376 : Shape := ⟨1, ![5376]⟩
abbrev S2688x23808 : Shape := ⟨2, ![2688, 23808]⟩
abbrev S42x23808 : Shape := ⟨2, ![42, 23808]⟩
abbrev S_ : Shape := ⟨0, ![]⟩

class Facts : Prop where
  bitsLt_bf16_f32 : FTy.bits .bf16 < FTy.bits .f32
  bcast_S_S24x1x5376 : S_.BroadcastsInDim S24x1x5376 (![] : Fin 0 → Fin S24x1x5376.rank)
  reducesTo_S24x1x5376_S_d0_1_2 : S24x1x5376.ReducesTo [0, 1, 2] S_
  h_S_ : 0 < S_.numel
  bcast_S_S5376 : S_.BroadcastsInDim S5376 (![] : Fin 0 → Fin S5376.rank)
  reducesTo_S5376_S_d0 : S5376.ReducesTo [0] S_

variable [Facts]

def fn {F : FTy → Type} [FloatOps F] (main_arg0 : FVec F S24x1x5376 .bf16) (main_arg1 : FVec F S5376 .f32) (main_arg2 : IVec S2688x23808 8) (main_arg3 : FVec F S42x23808 .bf16) : IVec S_ 1 :=
  let main_v0 : FVec F S24x1x5376 .f32 := (extf .f32 · bitsLt_bf16_f32) main_arg0
  let main_v1 : FVec F S24x1x5376 .f32 := Host.absf main_v0
  let main_cst : FVec F S_ .f32 := constant S_ .f32 0x7F800000#32
  let main_v2 : FVec F S24x1x5376 .f32 := broadcastInDim S24x1x5376 ![] bcast_S_S24x1x5376 main_cst
  let main_v3 : IVec S24x1x5376 1 := cmpf .olt main_v1 main_v2
  let main_c : IVec S_ 1 := constantI S_ 1 1#1
  let main_v4 : IVec S_ 1 := (fun x v => Host.reduce IntOp.andi x v reducesTo_S24x1x5376_S_d0_1_2 h_S_) main_v3 main_c
  let main_v5 : FVec F S5376 .f32 := Host.absf main_arg1
  let main_cst_0 : FVec F S_ .f32 := constant S_ .f32 0x7F800000#32
  let main_v6 : FVec F S5376 .f32 := broadcastInDim S5376 ![] bcast_S_S5376 main_cst_0
  let main_v7 : IVec S5376 1 := cmpf .olt main_v5 main_v6
  let main_c_1 : IVec S_ 1 := constantI S_ 1 1#1
  let main_v8 : IVec S_ 1 := (fun x v => Host.reduce IntOp.andi x v reducesTo_S5376_S_d0 h_S_) main_v7 main_c_1
  let main_v9 : IVec S_ 1 := andi main_v4 main_v8
  main_v9
-- ==== Kernel.lean ====
abbrev S24x1x5376 : Shape := ⟨3, ![24, 1, 5376]⟩
abbrev S5376 : Shape := ⟨1, ![5376]⟩
abbrev S2688x23808 : Shape := ⟨2, ![2688, 23808]⟩
abbrev S42x23808 : Shape := ⟨2, ![42, 23808]⟩
abbrev S24x5376 : Shape := ⟨2, ![24, 5376]⟩
abbrev S1x5376 : Shape := ⟨2, ![1, 5376]⟩
abbrev S24x23808 : Shape := ⟨2, ![24, 23808]⟩
abbrev S2688x768 : Shape := ⟨2, ![2688, 768]⟩
abbrev S42x768 : Shape := ⟨2, ![42, 768]⟩
abbrev S24x768 : Shape := ⟨2, ![24, 768]⟩
abbrev S32x5376 : Shape := ⟨2, ![32, 5376]⟩
abbrev S256x256 : Shape := ⟨2, ![256, 256]⟩
abbrev S24x128 : Shape := ⟨2, ![24, 128]⟩
abbrev S1x128 : Shape := ⟨2, ![1, 128]⟩
abbrev S24x256 : Shape := ⟨2, ![24, 256]⟩
abbrev S8x256 : Shape := ⟨2, ![8, 256]⟩
abbrev S32x256 : Shape := ⟨2, ![32, 256]⟩
abbrev S21x768 : Shape := ⟨2, ![21, 768]⟩
abbrev S32x768 : Shape := ⟨2, ![32, 768]⟩
abbrev S128x768 : Shape := ⟨2, ![128, 768]⟩
abbrev S128x1x768 : Shape := ⟨3, ![128, 1, 768]⟩
abbrev S128x2x768 : Shape := ⟨3, ![128, 2, 768]⟩
abbrev S256x768 : Shape := ⟨2, ![256, 768]⟩
abbrev S1x768 : Shape := ⟨2, ![1, 768]⟩
abbrev S2x768 : Shape := ⟨2, ![2, 768]⟩
abbrev S4x768 : Shape := ⟨2, ![4, 768]⟩
abbrev S8x768 : Shape := ⟨2, ![8, 768]⟩
abbrev S16x768 : Shape := ⟨2, ![16, 768]⟩
abbrev S64x768 : Shape := ⟨2, ![64, 768]⟩

abbrev nBuf : Space → Nat
  | .hbm => 7
  | .vmem => 9
  | .smem => 0
  | _ => 0

abbrev bufTy : (tb : Table) → Fin (tcTables nBuf tb) → BufTy
  | .hbm, ⟨0, _⟩ => ⟨S24x1x5376, .bf16⟩
  | .hbm, ⟨1, _⟩ => ⟨S5376, .f32⟩
  | .hbm, ⟨2, _⟩ => ⟨S2688x23808, .i8⟩
  | .hbm, ⟨3, _⟩ => ⟨S42x23808, .bf16⟩
  | .hbm, ⟨4, _⟩ => ⟨S24x5376, .bf16⟩
  | .hbm, ⟨5, _⟩ => ⟨S1x5376, .f32⟩
  | .hbm, ⟨6, _⟩ => ⟨S24x23808, .bf16⟩
  | .local _ .vmem, ⟨0, _⟩ => ⟨S24x5376, .bf16⟩
  | .local _ .vmem, ⟨1, _⟩ => ⟨S1x5376, .f32⟩
  | .local _ .vmem, ⟨2, _⟩ => ⟨S2688x768, .i8⟩
  | .local _ .vmem, ⟨3, _⟩ => ⟨S2688x768, .i8⟩
  | .local _ .vmem, ⟨4, _⟩ => ⟨S42x768, .bf16⟩
  | .local _ .vmem, ⟨5, _⟩ => ⟨S42x768, .bf16⟩
  | .local _ .vmem, ⟨6, _⟩ => ⟨S24x768, .bf16⟩
  | .local _ .vmem, ⟨7, _⟩ => ⟨S24x768, .bf16⟩
  | .local _ .vmem, ⟨8, _⟩ => ⟨S32x5376, .bf16⟩
  | _, _ => ⟨S24x1x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2688x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S42x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S24x1x5376 : Shape := ⟨3, ![24, 1, 5376]⟩
abbrev S5376 : Shape := ⟨1, ![5376]⟩
abbrev S2688x23808 : Shape := ⟨2, ![2688, 23808]⟩
abbrev S42x23808 : Shape := ⟨2, ![42, 23808]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x1x5376 : Shape := ⟨3, ![1, 1, 5376]⟩
abbrev S24x1x42x128 : Shape := ⟨4, ![24, 1, 42, 128]⟩
abbrev S21x23808 : Shape := ⟨2, ![21, 23808]⟩
abbrev S21x128x23808 : Shape := ⟨3, ![21, 128, 23808]⟩
abbrev S21x1x23808 : Shape := ⟨3, ![21, 1, 23808]⟩
abbrev S24x1x2688 : Shape := ⟨3, ![24, 1, 2688]⟩
abbrev S24x1x23808 : Shape := ⟨3, ![24, 1, 23808]⟩
abbrev S24x23808 : Shape := ⟨2, ![24, 23808]⟩

abbrev nBuf : Space → Nat
  | .hbm => 74
  | .vmem => 0
  | .smem => 0
  | _ => 0

abbrev bufTy : (tb : Table) → Fin (tcTables nBuf tb) → BufTy
  | .hbm, ⟨0, _⟩ => ⟨S24x1x5376, .bf16⟩
  | .hbm, ⟨1, _⟩ => ⟨S5376, .f32⟩
  | .hbm, ⟨2, _⟩ => ⟨S2688x23808, .i8⟩
  | .hbm, ⟨3, _⟩ => ⟨S42x23808, .bf16⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S24x1x5376, .f32⟩
  | .hbm, ⟨25, _⟩ => ⟨S1x1x5376, .f32⟩
  | .hbm, ⟨26, _⟩ => ⟨S24x1x5376, .f32⟩
  | .hbm, ⟨27, _⟩ => ⟨S24x1x5376, .f32⟩
  | .hbm, ⟨28, _⟩ => ⟨S24x1x42x128, .f32⟩
  | .hbm, ⟨29, _⟩ => ⟨S24x1x42x128, .f32⟩
  | .hbm, ⟨30, _⟩ => ⟨S24x1x5376, .f32⟩
  | .hbm, ⟨31, _⟩ => ⟨S24x1x5376, .bf16⟩
  | .hbm, ⟨32, _⟩ => ⟨S2688x23808, .i32⟩
  | .hbm, ⟨33, _⟩ => ⟨S_, .i32⟩
  | .hbm, ⟨34, _⟩ => ⟨S2688x23808, .i32⟩
  | .hbm, ⟨35, _⟩ => ⟨S2688x23808, .i32⟩
  | .hbm, ⟨36, _⟩ => ⟨S_, .i32⟩
  | .hbm, ⟨37, _⟩ => ⟨S2688x23808, .i32⟩
  | .hbm, ⟨38, _⟩ => ⟨S2688x23808, .i1⟩
  | .hbm, ⟨39, _⟩ => ⟨S_, .i32⟩
  | .hbm, ⟨40, _⟩ => ⟨S2688x23808, .i32⟩
  | .hbm, ⟨41, _⟩ => ⟨S2688x23808, .i32⟩
  | .hbm, ⟨42, _⟩ => ⟨S2688x23808, .i32⟩
  | .hbm, ⟨43, _⟩ => ⟨S_, .i32⟩
  | .hbm, ⟨44, _⟩ => ⟨S2688x23808, .i32⟩
  | .hbm, ⟨45, _⟩ => ⟨S2688x23808, .i32⟩
  | .hbm, ⟨46, _⟩ => ⟨S_, .i32⟩
  | .hbm, ⟨47, _⟩ => ⟨S2688x23808, .i32⟩
  | .hbm, ⟨48, _⟩ => ⟨S2688x23808, .i1⟩
  | .hbm, ⟨49, _⟩ => ⟨S_, .i32⟩
  | .hbm, ⟨50, _⟩ => ⟨S2688x23808, .i32⟩
  | .hbm, ⟨51, _⟩ => ⟨S2688x23808, .i32⟩
  | .hbm, ⟨52, _⟩ => ⟨S2688x23808, .i32⟩
  | .hbm, ⟨53, _⟩ => ⟨S21x23808, .bf16⟩
  | .hbm, ⟨54, _⟩ => ⟨S2688x23808, .bf16⟩
  | .hbm, ⟨55, _⟩ => ⟨S21x128x23808, .bf16⟩
  | .hbm, ⟨56, _⟩ => ⟨S21x1x23808, .bf16⟩
  | .hbm, ⟨57, _⟩ => ⟨S21x128x23808, .bf16⟩
  | .hbm, ⟨58, _⟩ => ⟨S21x128x23808, .bf16⟩
  | .hbm, ⟨59, _⟩ => ⟨S2688x23808, .bf16⟩
  | .hbm, ⟨60, _⟩ => ⟨S21x23808, .bf16⟩
  | .hbm, ⟨61, _⟩ => ⟨S2688x23808, .bf16⟩
  | .hbm, ⟨62, _⟩ => ⟨S21x128x23808, .bf16⟩
  | .hbm, ⟨63, _⟩ => ⟨S21x1x23808, .bf16⟩
  | .hbm, ⟨64, _⟩ => ⟨S21x128x23808, .bf16⟩
  | .hbm, ⟨65, _⟩ => ⟨S21x128x23808, .bf16⟩
  | .hbm, ⟨66, _⟩ => ⟨S2688x23808, .bf16⟩
  | .hbm, ⟨67, _⟩ => ⟨S24x1x2688, .bf16⟩
  | .hbm, ⟨68, _⟩ => ⟨S24x1x23808, .f32⟩
  | .hbm, ⟨69, _⟩ => ⟨S24x1x2688, .bf16⟩
  | .hbm, ⟨70, _⟩ => ⟨S24x1x23808, .f32⟩
  | .hbm, ⟨71, _⟩ => ⟨S24x1x23808, .f32⟩
  | .hbm, ⟨72, _⟩ => ⟨S24x1x23808, .bf16⟩
  | .hbm, ⟨73, _⟩ => ⟨S24x23808, .bf16⟩
  | _, _ => ⟨S24x1x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Vocab.lean ====
/- The kernel's body in a small vocabulary: the rotation of one group of the activations (`rotAt`), one group's step of the
   accumulation (`stepAt`), the 21 steps (`accN`) and what is stored at the end (`bodyOut`). -/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Idealize.ShloMosaic

variable {F : FTy → Type} [FloatOps F]

/-- One row repeated 128 times, by seven doublings. -/
def rep (r : FVec F S1x768 .bf16) : FVec F S128x768 .bf16 :=
  have r2 : FVec F S2x768 .bf16 := concatenate S2x768 0 [⟨S1x768, r⟩, ⟨S1x768, r⟩] concatenates_S1x768_S1x768_S2x768_d0
  have r4 : FVec F S4x768 .bf16 := concatenate S4x768 0 [⟨S2x768, r2⟩, ⟨S2x768, r2⟩] concatenates_S2x768_S2x768_S4x768_d0
  have r8 : FVec F S8x768 .bf16 := concatenate S8x768 0 [⟨S4x768, r4⟩, ⟨S4x768, r4⟩] concatenates_S4x768_S4x768_S8x768_d0
  have r16 : FVec F S16x768 .bf16 := concatenate S16x768 0 [⟨S8x768, r8⟩, ⟨S8x768, r8⟩] concatenates_S8x768_S8x768_S16x768_d0
  have r32 : FVec F S32x768 .bf16 := concatenate S32x768 0 [⟨S16x768, r16⟩, ⟨S16x768, r16⟩] concatenates_S16x768_S16x768_S32x768_d0
  have r64 : FVec F S64x768 .bf16 := concatenate S64x768 0 [⟨S32x768, r32⟩, ⟨S32x768, r32⟩] concatenates_S32x768_S32x768_S64x768_d0
  concatenate S128x768 0 [⟨S64x768, r64⟩, ⟨S64x768, r64⟩] concatenates_S64x768_S64x768_S128x768_d0

/-- A packed block's codes: rows `2k` and `2k + 1` are row `k`'s low and high half-bytes, sign-extended. -/
def codes (p : IVec S128x768 8) : IVec S256x768 4 :=
  have w : IVec S128x768 32 := extui 32 p natLt_8_32
  have lo : IVec S128x768 32 := shrsi (shli w (broadcast S128x768 28#32)) (broadcast S128x768 28#32)
  have hi : IVec S128x768 32 := shrsi (shli w (broadcast S128x768 24#32)) (broadcast S128x768 28#32)
  have both : IVec S128x2x768 32 := concatenate S128x2x768 1
    [⟨S128x1x768, shapeCast S128x1x768 lo shapeCasts_S128x768_S128x1x768⟩, ⟨S128x1x768, shapeCast S128x1x768 hi shapeCasts_S128x768_S128x1x768⟩]
    concatenates_S128x1x768_S128x1x768_S128x2x768_d1
  trunci 4 (shapeCast S256x768 both shapeCasts_S128x2x768_S256x768) natLt_4_32

/-- One group's step of the accumulation. -/
def step (acc : FVec F S32x768 .f32) (xr : Vec F S32x256 .bf16) (p : Vec F S128x768 .i8) (lo hi : FVec F S1x768 .bf16) : FVec F S32x768 .f32 :=
  addf acc (matmul dot_S32x256_S256x768_S32x768_1_0_0_1_n_n none xr
    (mulf (sitofp .bf16 (codes p) : FVec F S256x768 .bf16) (interleaveRows S256x768 (rep lo) (rep hi) bitcasts_S256x768_w16_S128x768_w32))
    (constant S32x768 .f32 0x00000000#32))

theorem inb_xr (g : ℕ) (hg : g < 21) : ∀ a, (![0, 256 * g] : Fin 2 → ℕ) a + S32x256.size a ≤ S32x5376.size a := by
  intro a; fin_cases a
  · show 0 + 32 ≤ 32; omega
  · show 256 * g + 256 ≤ 5376; omega

theorem inb_w (g : ℕ) (hg : g < 21) : ∀ a, (![128 * g, 0] : Fin 2 → ℕ) a + S128x768.size a ≤ S2688x768.size a := by
  intro a; fin_cases a
  · show 128 * g + 128 ≤ 2688; omega
  · show 0 + 768 ≤ 768; omega

theorem slices_scale (g : ℕ) (hg : g < 21) : S21x768.Slices ![g, 0] S1x768 := by
  refine ⟨rfl, fun a => ?_⟩; fin_cases a
  · show g + 1 ≤ 21; omega
  · show 0 + 768 ≤ 768; omega

theorem inb_x (o : ℕ) (ho : o + 128 ≤ 5376) : ∀ a, (![0, o] : Fin 2 → ℕ) a + S24x128.size a ≤ S24x5376.size a := by
  intro a; fin_cases a
  · show 0 + 24 ≤ 24; omega
  · show o + 128 ≤ 5376; omega

theorem inb_s (o : ℕ) (ho : o + 128 ≤ 5376) : ∀ a, (![0, o] : Fin 2 → ℕ) a + S1x128.size a ≤ S1x5376.size a := by
  intro a; fin_cases a
  · show 0 + 1 ≤ 1; omega
  · show o + 128 ≤ 5376; omega

/-- Group `g`'s step, its operands cut out of the stored rotation, of the point's packed block and of its two halves of scales. -/
def stepAt (xs : Vec F S32x5376 .bf16) (x2 : Vec F S2688x768 .i8) (lo hi : FVec F S21x768 .bf16) (g : ℕ) (hg : g < 21)
    (acc : FVec F S32x768 .f32) : FVec F S32x768 .f32 :=
  step acc (View.ld xs (Rect.unit (s := S32x5376) ![0, 256 * g] S32x256.size (inb_xr g hg)))
    (View.ld x2 (Rect.unit (s := S2688x768) ![128 * g, 0] S128x768.size (inb_w g hg)))
    (extractStridedSlice S1x768 ![g, 0] lo (slices_scale g hg)) (extractStridedSlice S1x768 ![g, 0] hi (slices_scale g hg))

/-- The accumulator after the first `n` groups. -/
def accN (xs : Vec F S32x5376 .bf16) (x2 : Vec F S2688x768 .i8) (lo hi : FVec F S21x768 .bf16) : (n : ℕ) → n ≤ 21 → FVec F S32x768 .f32
  | 0, _ => k0_pay64
  | n + 1, h => stepAt xs x2 lo hi n h (accN xs x2 lo hi n (Nat.le_of_succ_le h))

/-- What one grid point stores in its output block. -/
def bodyOut (xs : Vec F S32x5376 .bf16) (x2 : Vec F S2688x768 .i8) (x3 : Vec F S42x768 .bf16) : FVec F S24x768 .bf16 :=
  truncf .bf16 (extractStridedSlice S24x768 ![0, 0] (accN xs x2 (k0_pay62 x3) (k0_pay63 x3) 21 le_rfl) slices_S32x768_o0_0_S24x768) bitsLt_bf16_f32

/-- The rotation of a 32 × 256 block of activations: its three-term split into bf16, each term times `h`, added up and scaled. -/
def rot (h : FVec F S256x256 .bf16) (xs : FVec F S32x256 .f32) : FVec F S32x256 .bf16 :=
  have p0 : FVec F S32x256 .bf16 := truncf .bf16 xs bitsLt_bf16_f32
  have r1 : FVec F S32x256 .f32 := subf xs (extf .f32 p0 bitsLt_bf16_f32)
  have p1 : FVec F S32x256 .bf16 := truncf .bf16 r1 bitsLt_bf16_f32
  have p2 : FVec F S32x256 .bf16 := truncf .bf16 (subf r1 (extf .f32 p1 bitsLt_bf16_f32)) bitsLt_bf16_f32
  have d0 : FVec F S32x256 .f32 := matmul dot_S32x256_S256x256_S32x256_1_0_0_1_n_n none p0 h (constant S32x256 .f32 0x00000000#32)
  have d1 : FVec F S32x256 .f32 := matmul dot_S32x256_S256x256_S32x256_1_0_0_1_n_n none p1 h (constant S32x256 .f32 0x00000000#32)
  have d2 : FVec F S32x256 .f32 := matmul dot_S32x256_S256x256_S32x256_1_0_0_1_n_n none p2 h (constant S32x256 .f32 0x00000000#32)
  have s : FVec F S32x256 .bf16 :=
    truncf .bf16 (mulf (addf (addf d0 d1) d2) (broadcast S32x256 (Scalar.ofBits .f32 0x3DB504F3#32 : F .f32))) bitsLt_bf16_f32
  shapeCast S32x256 s shapeCasts_S32x256_S32x256

/-- Group `g`'s rotation: of the activations' blocks `g` and `21 + g` times their signs, side by side. -/
def rotAt (x0 : Vec F S24x5376 .bf16) (x1 : Vec F S1x5376 .f32) (g : ℕ) (hg : g < 21) : FVec F S32x256 .bf16 :=
  rot k0_pay2 (k0_pay3
    (View.ld x0 (Rect.unit (s := S24x5376) ![0, 128 * g] S24x128.size (inb_x _ (by omega))))
    (View.ld x1 (Rect.unit (s := S1x5376) ![0, 128 * g] S1x128.size (inb_s _ (by omega))))
    (View.ld x0 (Rect.unit (s := S24x5376) ![0, 2688 + 128 * g] S24x128.size (inb_x _ (by omega))))
    (View.ld x1 (Rect.unit (s := S1x5376) ![0, 2688 + 128 * g] S1x128.size (inb_s _ (by omega)))))

/-- The stored rotation: columns `256 g … 256 g + 255` are group `g`'s. -/
def xrAll (x0 : Vec F S24x5376 .bf16) (x1 : Vec F S1x5376 .f32) : Vec F S32x5376 .bf16 := fun y =>
  have h : (y 1).val < 5376 := (y 1).isLt
  rotAt x0 x1 ((y 1).val / 256) (by omega) (ix2 ⟨(y 0).val, (y 0).isLt⟩ ⟨(y 1).val % 256, by omega⟩)

theorem xrAll_emb (x0 : Vec F S24x5376 .bf16) (x1 : Vec F S1x5376 .f32) (g : ℕ) (hg : g < 21) (h)
    (x : (Rect.unit (s := S32x5376) ![0, 256 * g] S32x256.size h).shape.Idx) :
    xrAll x0 x1 ((Rect.unit (s := S32x5376) ![0, 256 * g] S32x256.size h).emb x) = rotAt x0 x1 g hg x := by
  have h1 : (x 1).val < 256 := (x 1).isLt
  have e0 : ((Rect.unit (s := S32x5376) ![0, 256 * g] S32x256.size h).emb x 0).val = 0 + 1 * (x 0).val := rfl
  have e1 : ((Rect.unit (s := S32x5376) ![0, 256 * g] S32x256.size h).emb x 1).val = 256 * g + 1 * (x 1).val := rfl
  unfold xrAll
  have hd : ((Rect.unit (s := S32x5376) ![0, 256 * g] S32x256.size h).emb x 1).val / 256 = g := by rw [e1]; omega
  have hx : (ix2 ⟨((Rect.unit (s := S32x5376) ![0, 256 * g] S32x256.size h).emb x 0).val, Fin.isLt _⟩
      ⟨((Rect.unit (s := S32x5376) ![0, 256 * g] S32x256.size h).emb x 1).val % 256, by omega⟩ : S32x256.Idx) = x := by
    funext a; apply Fin.ext; fin_cases a
    · show ((Rect.unit (s := S32x5376) ![0, 256 * g] S32x256.size h).emb x 0).val = (x 0).val; rw [e0]; omega
    · show ((Rect.unit (s := S32x5376) ![0, 256 * g] S32x256.size h).emb x 1).val % 256 = (x 1).val; rw [e1]; omega
  dsimp only
  rw [hx]
  congr 1

/-- A stored piece that is group `g`'s rotation is `xrAll` on its rectangle. -/
theorem piece_xrAll (x0 : Vec F S24x5376 .bf16) (x1 : Vec F S1x5376 .f32) (g : ℕ) (hg : g < 21)
    (w : (Rect.unit (s := S32x5376) ![0, 256 * g] S32x256.size (inb_xr g hg)).shape.Idx → F .bf16) (hw : w = rotAt x0 x1 g hg) :
    ∀ x, w x = xrAll x0 x1 ((Rect.unit (s := S32x5376) ![0, 256 * g] S32x256.size (inb_xr g hg)).emb x) := fun x => by
  rw [xrAll_emb x0 x1 g hg _ x, hw]

end Cert.KernelIdeal.Hand

end
-- ==== Proof.Index.lean ====
/- The vocabulary of Vocab.lean read at an index, over the extended reals. -/
module

public import proofs.«01_k».proof.Proof.Vocab

@[expose] public section

set_option maxRecDepth 16384

noncomputable section

namespace Cert.KernelIdeal.Hand

open Cert.KernelIdeal Cert.KernelIdeal.Gen Idealize.ShloMosaic

section rep

variable (r : FVec Ideal S1x768 .bf16)

theorem dbl1 (x : FVec Ideal S1x768 .bf16) (v : Fin 768 → Ideal .bf16) (h : ∀ k n, x (ix2 k n) = v n) (k : Fin 2) (n : Fin 768) :
    concatenate S2x768 0 [⟨S1x768, x⟩, ⟨S1x768, x⟩] concatenates_S1x768_S1x768_S2x768_d0 (ix2 k n) = v n := by
  pointwise; split <;> exact h _ _

theorem dbl2 (x : FVec Ideal S2x768 .bf16) (v : Fin 768 → Ideal .bf16) (h : ∀ k n, x (ix2 k n) = v n) (k : Fin 4) (n : Fin 768) :
    concatenate S4x768 0 [⟨S2x768, x⟩, ⟨S2x768, x⟩] concatenates_S2x768_S2x768_S4x768_d0 (ix2 k n) = v n := by
  pointwise; split <;> exact h _ _

theorem dbl4 (x : FVec Ideal S4x768 .bf16) (v : Fin 768 → Ideal .bf16) (h : ∀ k n, x (ix2 k n) = v n) (k : Fin 8) (n : Fin 768) :
    concatenate S8x768 0 [⟨S4x768, x⟩, ⟨S4x768, x⟩] concatenates_S4x768_S4x768_S8x768_d0 (ix2 k n) = v n := by
  pointwise; split <;> exact h _ _

theorem dbl8 (x : FVec Ideal S8x768 .bf16) (v : Fin 768 → Ideal .bf16) (h : ∀ k n, x (ix2 k n) = v n) (k : Fin 16) (n : Fin 768) :
    concatenate S16x768 0 [⟨S8x768, x⟩, ⟨S8x768, x⟩] concatenates_S8x768_S8x768_S16x768_d0 (ix2 k n) = v n := by
  pointwise; split <;> exact h _ _

theorem dbl16 (x : FVec Ideal S16x768 .bf16) (v : Fin 768 → Ideal .bf16) (h : ∀ k n, x (ix2 k n) = v n) (k : Fin 32) (n : Fin 768) :
    concatenate S32x768 0 [⟨S16x768, x⟩, ⟨S16x768, x⟩] concatenates_S16x768_S16x768_S32x768_d0 (ix2 k n) = v n := by
  pointwise; split <;> exact h _ _

theorem dbl32 (x : FVec Ideal S32x768 .bf16) (v : Fin 768 → Ideal .bf16) (h : ∀ k n, x (ix2 k n) = v n) (k : Fin 64) (n : Fin 768) :
    concatenate S64x768 0 [⟨S32x768, x⟩, ⟨S32x768, x⟩] concatenates_S32x768_S32x768_S64x768_d0 (ix2 k n) = v n := by
  pointwise; split <;> exact h _ _

theorem dbl64 (x : FVec Ideal S64x768 .bf16) (v : Fin 768 → Ideal .bf16) (h : ∀ k n, x (ix2 k n) = v n) (k : Fin 128) (n : Fin 768) :
    concatenate S128x768 0 [⟨S64x768, x⟩, ⟨S64x768, x⟩] concatenates_S64x768_S64x768_S128x768_d0 (ix2 k n) = v n := by
  pointwise; split <;> exact h _ _

/-- Every row of the repeated row is the row. -/
theorem rep_apply (k : Fin 128) (n : Fin 768) : rep r (ix2 k n) = r (ix2 0 n) := by
  refine dbl64 _ (fun n => r (ix2 0 n)) (dbl32 _ _ (dbl16 _ _ (dbl8 _ _ (dbl4 _ _ (dbl2 _ _ (dbl1 _ _ fun k n => ?_)))))) k n
  obtain rfl : k = 0 := Subsingleton.elim _ _
  rfl

end rep

/-- The code of a byte: its low half for an even row of the unpacked block, its high half for an odd one, as a signed number. -/
def codeOf (w : BitVec 8) (odd : Bool) : BitVec 4 :=
  BitVec.setWidth 4 (IntOp.shrsi .vector (IntOp.shli .vector (BitVec.setWidth 32 w) (if odd then 24#32 else 28#32)) 28#32)

theorem codes_apply (p : IVec S128x768 8) (k : Fin 256) (n : Fin 768) :
    codes p (ix2 k n) = codeOf (p (ix2 ⟨k.val / 2, by omega⟩ n)) (decide (k.val % 2 = 1)) := by
  pointwise [codes]
  unfold codeOf
  rcases Nat.mod_two_eq_zero_or_one k.val with h | h <;> simp [h]

theorem step_apply (acc : FVec Ideal S32x768 .f32) (xr : Vec Ideal S32x256 .bf16) (p : Vec Ideal S128x768 .i8) (lo hi : FVec Ideal S1x768 .bf16)
    (r : Fin 32) (n : Fin 768) :
    (step acc xr p lo hi (ix2 r n) : EReal) = acc (ix2 r n) + ∑ k : Fin 256, xr (ix2 r k) *
      ((((codeOf (p (ix2 ⟨k.val / 2, by omega⟩ n)) (decide (k.val % 2 = 1))).toInt : ℝ) : EReal) *
        (if k.val % 2 = 0 then lo (ix2 0 n) else hi (ix2 0 n) : EReal)) := by
  pointwise [step]
  simp only [rep_apply, codes_apply]
  rfl

/-- Group `g`'s contribution to the accumulator at `(r, n)`. -/
def termAt (xs : Vec Ideal S32x5376 .bf16) (x2 : Vec Ideal S2688x768 .i8) (lo hi : FVec Ideal S21x768 .bf16) (r : Fin 32) (n : Fin 768)
    (g : Fin 21) : EReal :=
  ∑ k : Fin 256, (xs (ix2 r ⟨256 * g.val + k.val, by omega⟩) : EReal) *
    ((((codeOf (x2 (ix2 ⟨128 * g.val + k.val / 2, by omega⟩ n)) (decide (k.val % 2 = 1))).toInt : ℝ) : EReal) *
      (if k.val % 2 = 0 then lo (ix2 g n) else hi (ix2 g n) : EReal))

theorem stepAt_apply (xs : Vec Ideal S32x5376 .bf16) (x2 : Vec Ideal S2688x768 .i8) (lo hi : FVec Ideal S21x768 .bf16) (r : Fin 32) (n : Fin 768)
    (g : ℕ) (hg : g < 21) (acc : FVec Ideal S32x768 .f32) :
    (stepAt xs x2 lo hi g hg acc (ix2 r n) : EReal) = acc (ix2 r n) + termAt xs x2 lo hi r n ⟨g, hg⟩ := by
  unfold stepAt
  rw [step_apply]
  congr 1
  unfold termAt
  refine Finset.sum_congr rfl fun k _ => ?_
  have hk := k.isLt
  congr 1
  · pointwise
  · have e : (View.ld x2 (Rect.unit (s := S2688x768) ![128 * g, 0] S128x768.size (inb_w g hg)) (ix2 ⟨k.val / 2, by omega⟩ n) : BitVec 8) =
        x2 (ix2 ⟨128 * g + k.val / 2, by omega⟩ n) := by pointwise
    rw [e]
    congr 1
    pointwise

theorem pay64_apply (r : Fin 32) (n : Fin 768) : (k0_pay64 (F := Ideal) (ix2 r n) : EReal) = 0 := by
  pointwise [k0_pay64]

theorem accN_apply (xs : Vec Ideal S32x5376 .bf16) (x2 : Vec Ideal S2688x768 .i8) (lo hi : FVec Ideal S21x768 .bf16) (r : Fin 32) (n : Fin 768) :
    ∀ (j : ℕ) (hj : j ≤ 21), (accN xs x2 lo hi j hj (ix2 r n) : EReal) = ∑ g : Fin j, termAt xs x2 lo hi r n ⟨g.val, by omega⟩
  | 0, _ => by rw [Finset.univ_eq_empty, Finset.sum_empty]; exact pay64_apply r n
  | j + 1, hj => by
    rw [Fin.sum_univ_castSucc, accN, stepAt_apply, accN_apply xs x2 lo hi r n j (Nat.le_of_succ_le hj)]
    rfl

theorem bodyOut_apply (xs : Vec Ideal S32x5376 .bf16) (x2 : Vec Ideal S2688x768 .i8) (x3 : Vec Ideal S42x768 .bf16) (b : Fin 24) (n : Fin 768) :
    (bodyOut xs x2 x3 (ix2 b n) : EReal) = ∑ g : Fin 21, ∑ k : Fin 256, (xs (ix2 ⟨b.val, by omega⟩ ⟨256 * g.val + k.val, by omega⟩) : EReal) *
      ((((codeOf (x2 (ix2 ⟨128 * g.val + k.val / 2, by omega⟩ n)) (decide (k.val % 2 = 1))).toInt : ℝ) : EReal) *
        (x3 (ix2 ⟨g.val + 21 * (k.val % 2), by omega⟩ n) : EReal)) := by
  unfold bodyOut
  pointwise
  rw [accN_apply]
  refine Finset.sum_congr rfl fun g _ => Finset.sum_congr rfl fun k _ => ?_
  congr 2
  pointwise [k0_pay62, k0_pay63, k0_pay61]
  rcases Nat.mod_two_eq_zero_or_one k.val with h | h
  · rw [if_pos h]; congr 2; apply Fin.ext; simp [h]
  · rw [if_neg (by omega)]; congr 2; apply Fin.ext; simp [h]; omega

section rotation

/-- The scale of the rotation, `128 ^ (-1/2)` in float32. -/
def cst : EReal := Ideal.ofBits FTy.f32 1035273459#32

/-- The sign of the Hadamard matrix at `(i, k)`, as a word. -/
def hadW (i k : ℕ) : BitVec 32 :=
  IntOp.subi 1#32 (IntOp.muli 2#32 (IntOp.andi (IntOp.ctpop (IntOp.andi (BitVec.ofNat 32 i) (BitVec.ofNat 32 k))) 1#32))

/-- The rotation of a finite block: the second and third terms of the split are zero. -/
theorem rot_apply (h : FVec Ideal S256x256 .bf16) (xs : FVec Ideal S32x256 .f32) (r : Fin 32) (q : Fin 256) (v : Fin 256 → ℝ)
    (hv : ∀ k, (xs (ix2 r k) : EReal) = (v k : EReal)) :
    (rot h xs (ix2 r q) : EReal) = (∑ k : Fin 256, (v k : EReal) * (h (ix2 k q) : EReal)) * cst := by
  have z : ∀ k, ((v k : EReal) - (v k : EReal)) = 0 := fun k => by rw [← EReal.coe_sub, sub_self, EReal.coe_zero]
  pointwise [rot]
  simp only [hv, z, sub_zero, zero_mul, Finset.sum_const_zero, add_zero]
  rfl

theorem and127 : ∀ r : Fin 256, IntOp.andi (BitVec.ofNat 32 r.val) 127#32 = BitVec.ofNat 32 (r.val % 128) := by decide +kernel
theorem shr1 : ∀ q : Fin 256, IntOp.shrsi .vector (BitVec.ofNat 32 q.val) 1#32 = BitVec.ofNat 32 (q.val / 2) := by decide +kernel
theorem shr7 : ∀ r : Fin 256, IntOp.shrsi .vector (BitVec.ofNat 32 r.val) 7#32 = BitVec.ofNat 32 (r.val / 128) := by decide +kernel
theorem and1 : ∀ q : Fin 256, IntOp.andi (BitVec.ofNat 32 q.val) 1#32 = BitVec.ofNat 32 (q.val % 2) := by decide +kernel
theorem eq2 : ∀ a b : Fin 2, IntOp.cmpi CmpIPredicate.eq (BitVec.ofNat 32 a.val) (BitVec.ofNat 32 b.val) = if a.val = b.val then 1#1 else 0#1 := by
  decide +kernel

/-- The matrix the rotation multiplies with: two Hadamard matrices, one in the even columns and one in the odd ones. -/
theorem had_apply (r q : Fin 256) :
    (k0_pay2 (F := Ideal) (ix2 r q) : EReal) =
      if r.val / 128 = q.val % 2 then (((hadW (r.val % 128) (q.val / 2)).toInt : ℝ) : EReal) else 0 := by
  pointwise [k0_pay2]
  rw [and127, shr1, shr7, and1, eq2 ⟨r.val / 128, by omega⟩ ⟨q.val % 2, by omega⟩]
  dsimp only
  split
  · rfl
  · rfl

theorem pay3_apply (x : Vec Ideal S24x128 .bf16) (s : Vec Ideal S1x128 .f32) (x' : Vec Ideal S24x128 .bf16) (s' : Vec Ideal S1x128 .f32)
    (r : Fin 32) (hr : r.val < 24) (q : Fin 256) : (k0_pay3 (F := Ideal) x s x' s' (ix2 r q) : EReal) =
      if h : q.val < 128 then (x (ix2 ⟨r.val, hr⟩ ⟨q.val, h⟩) * s (ix2 0 ⟨q.val, h⟩) : EReal)
      else (x' (ix2 ⟨r.val, hr⟩ ⟨q.val - 128, by omega⟩) * s' (ix2 0 ⟨q.val - 128, by omega⟩) : EReal) := by
  pointwise [k0_pay3]
  rw [dif_pos hr]

theorem sum_halves (f : Fin 256 → EReal) : ∑ i, f i = ∑ i : Fin 128, f ⟨i.val, by omega⟩ + ∑ i : Fin 128, f ⟨128 + i.val, by omega⟩ :=
  Fin.sum_univ_add (a := 128) (b := 128) f

/-- A sum over 256 terms against an even or an odd column of that matrix is the sum over one half. -/
theorem sum_had (v : Fin 256 → EReal) (k : Fin 128) (p : ℕ) (hp : p < 2) (q : Fin 256) (hq : q.val = 2 * k.val + p) :
    (∑ i : Fin 256, v i * (k0_pay2 (F := Ideal) (ix2 i q) : EReal)) =
      ∑ i : Fin 128, v ⟨128 * p + i.val, by omega⟩ * (((hadW i.val k.val).toInt : ℝ) : EReal) := by
  have hk := k.isLt
  have hq2 : q.val / 2 = k.val := by omega
  have hqm : q.val % 2 = p := by omega
  simp only [had_apply, hq2, hqm]
  rw [sum_halves]
  obtain rfl | rfl : p = 0 ∨ p = 1 := by omega
  · have z : (∑ i : Fin 128, v ⟨128 + i.val, by omega⟩ *
        (if (128 + i.val) / 128 = 0 then (((hadW ((128 + i.val) % 128) k.val).toInt : ℝ) : EReal) else 0)) = 0 :=
      Finset.sum_eq_zero fun i _ => by rw [if_neg (by omega), mul_zero]
    rw [z, add_zero]
    refine Finset.sum_congr rfl fun i _ => ?_
    have hi := i.isLt
    rw [if_pos (by show i.val / 128 = 0; omega)]
    dsimp only
    rw [Nat.mod_eq_of_lt hi]
    congr 2
    apply Fin.ext; show i.val = 128 * 0 + i.val; omega
  · have z : (∑ i : Fin 128, v ⟨i.val, by omega⟩ *
        (if i.val / 128 = 1 then (((hadW (i.val % 128) k.val).toInt : ℝ) : EReal) else 0)) = 0 :=
      Finset.sum_eq_zero fun i _ => by rw [if_neg (by omega), mul_zero]
    rw [z, zero_add]
    refine Finset.sum_congr rfl fun i _ => ?_
    have hi := i.isLt
    rw [if_pos (by show (128 + i.val) / 128 = 1; omega)]
    dsimp only
    rw [show (128 + i.val) % 128 = i.val by omega]

end rotation

end Cert.KernelIdeal.Hand

end
-- ==== Proof.Open.lean ====
/- The two cases of the kernel's run, opened to the vocabulary of Vocab.lean: what they leave in the output block and in the scratch. -/
module

public import proofs.«01_k».proof.Proof.Gen.KernelIdeal.Value
public import proofs.«01_k».proof.Proof.Vocab
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]

/-- The first grid point leaves the rotation of all groups in the scratch. -/
theorem soutA (c : Dev nD) (i : grid0.Coords) (arg1 : Memref sig .tc .vmem S24x5376 .bf16) (harg1 : arg1.IsWhole) (arg2 : Memref sig .tc .vmem S1x5376 .f32) (harg2 : arg2.IsWhole) (arg3 : Memref sig .tc .vmem S2688x768 .i8) (harg3 : arg3.IsWhole) (arg4 : Memref sig .tc .vmem S42x768 .bf16) (harg4 : arg4.IsWhole) (arg5 : Memref sig .tc .vmem S24x768 .bf16) (harg5 : arg5.IsWhole) (arg6 : Memref sig .tc .vmem S32x5376 .bf16) (harg6 : arg6.IsWhole) (hc0 : cond0_0 i)
    (x0 : Vec F S24x5376 .bf16) (x1 : Vec F S1x5376 .f32) (x2 : Vec F S2688x768 .i8) (x3 : Vec F S42x768 .bf16) :
    sout0_A_0 c i arg1 harg1 arg2 harg2 arg3 harg3 arg4 harg4 arg5 harg5 arg6 harg6 hc0 x0 x1 x2 x3 = xrAll x0 x1 := by
  have hcov := scover0_A_0 c i arg1 harg1 arg2 harg2 arg3 harg3 arg4 harg4 arg5 harg5 arg6 harg6 hc0 x0 x1 x2 x3
  unfold sout0_A_0; rw [View.read_writes_eq_canon _ _ _ hcov]
  funext y
  refine View.canon_apply_of_pieces (xrAll x0 x1) _ ?_ y (hcov y)
  unfold kernelRun0_A; dsimp only; sl_unfold_words
  simp only [View.readAt_eq_ld, harg1.read_unread, harg2.read_unread, harg3.read_unread, harg4.read_unread]
  refine List.forall_mem_cons.2 ⟨piece_xrAll x0 x1 20 (by decide) _ (by sl_kernel_rfl), ?_⟩
  refine List.forall_mem_cons.2 ⟨piece_xrAll x0 x1 19 (by decide) _ (by sl_kernel_rfl), ?_⟩
  refine List.forall_mem_cons.2 ⟨piece_xrAll x0 x1 18 (by decide) _ (by sl_kernel_rfl), ?_⟩
  refine List.forall_mem_cons.2 ⟨piece_xrAll x0 x1 17 (by decide) _ (by sl_kernel_rfl), ?_⟩
  refine List.forall_mem_cons.2 ⟨piece_xrAll x0 x1 16 (by decide) _ (by sl_kernel_rfl), ?_⟩
  refine List.forall_mem_cons.2 ⟨piece_xrAll x0 x1 15 (by decide) _ (by sl_kernel_rfl), ?_⟩
  refine List.forall_mem_cons.2 ⟨piece_xrAll x0 x1 14 (by decide) _ (by sl_kernel_rfl), ?_⟩
  refine List.forall_mem_cons.2 ⟨piece_xrAll x0 x1 13 (by decide) _ (by sl_kernel_rfl), ?_⟩
  refine List.forall_mem_cons.2 ⟨piece_xrAll x0 x1 12 (by decide) _ (by sl_kernel_rfl), ?_⟩
  refine List.forall_mem_cons.2 ⟨piece_xrAll x0 x1 11 (by decide) _ (by sl_kernel_rfl), ?_⟩
  refine List.forall_mem_cons.2 ⟨piece_xrAll x0 x1 10 (by decide) _ (by sl_kernel_rfl), ?_⟩
  refine List.forall_mem_cons.2 ⟨piece_xrAll x0 x1 9 (by decide) _ (by sl_kernel_rfl), ?_⟩
  refine List.forall_mem_cons.2 ⟨piece_xrAll x0 x1 8 (by decide) _ (by sl_kernel_rfl), ?_⟩
  refine List.forall_mem_cons.2 ⟨piece_xrAll x0 x1 7 (by decide) _ (by sl_kernel_rfl), ?_⟩
  refine List.forall_mem_cons.2 ⟨piece_xrAll x0 x1 6 (by decide) _ (by sl_kernel_rfl), ?_⟩
  refine List.forall_mem_cons.2 ⟨piece_xrAll x0 x1 5 (by decide) _ (by sl_kernel_rfl), ?_⟩
  refine List.forall_mem_cons.2 ⟨piece_xrAll x0 x1 4 (by decide) _ (by sl_kernel_rfl), ?_⟩
  refine List.forall_mem_cons.2 ⟨piece_xrAll x0 x1 3 (by decide) _ (by sl_kernel_rfl), ?_⟩
  refine List.forall_mem_cons.2 ⟨piece_xrAll x0 x1 2 (by decide) _ (by sl_kernel_rfl), ?_⟩
  refine List.forall_mem_cons.2 ⟨piece_xrAll x0 x1 1 (by decide) _ (by sl_kernel_rfl), ?_⟩
  refine List.forall_mem_cons.2 ⟨piece_xrAll x0 x1 0 (by decide) _ (by sl_kernel_rfl), ?_⟩
  exact fun p hp => absurd hp List.not_mem_nil

/-- The first grid point's output block, over what it left in the scratch. -/
theorem outA_canon (c : Dev nD) (i : grid0.Coords) (arg1 : Memref sig .tc .vmem S24x5376 .bf16) (harg1 : arg1.IsWhole) (arg2 : Memref sig .tc .vmem S1x5376 .f32) (harg2 : arg2.IsWhole) (arg3 : Memref sig .tc .vmem S2688x768 .i8) (harg3 : arg3.IsWhole) (arg4 : Memref sig .tc .vmem S42x768 .bf16) (harg4 : arg4.IsWhole) (arg5 : Memref sig .tc .vmem S24x768 .bf16) (harg5 : arg5.IsWhole) (arg6 : Memref sig .tc .vmem S32x5376 .bf16) (harg6 : arg6.IsWhole) (hc0 : cond0_0 i)
    (x0 : Vec F S24x5376 .bf16) (x1 : Vec F S1x5376 .f32) (x2 : Vec F S2688x768 .i8) (x3 : Vec F S42x768 .bf16) :
    out0_A_4 c i arg1 harg1 arg2 harg2 arg3 harg3 arg4 harg4 arg5 harg5 arg6 harg6 hc0 x0 x1 x2 x3 =
      bodyOut (sout0_A_0 c i arg1 harg1 arg2 harg2 arg3 harg3 arg4 harg4 arg5 harg5 arg6 harg6 hc0 x0 x1 x2 x3) x2 (View.ld x3 (Rect.unit (s := S42x768) ![0, 0] S42x768.size inb_S42x768_S42x768_0_0)) := by
  unfold out0_A_4 sout0_A_0
  rw [View.read_writes_eq_canon _ _ _ (cover0_A_4 c i arg1 harg1 arg2 harg2 arg3 harg3 arg4 harg4 arg5 harg5 arg6 harg6 hc0 x0 x1 x2 x3), View.read_writes_eq_canon _ _ _ (scover0_A_0 c i arg1 harg1 arg2 harg2 arg3 harg3 arg4 harg4 arg5 harg5 arg6 harg6 hc0 x0 x1 x2 x3)]
  unfold kernelRun0_A; dsimp only; sl_unfold_words
  simp only [View.readAt_eq_ld, harg1.read_unread, harg2.read_unread, harg3.read_unread, harg4.read_unread, View.readCov_eq_canon']
  rw [View.canon_cons_unit_lit _ _ _ (by decide)]
  sl_kernel_rfl

/-- A later grid point's output block, over what the scratch holds. -/
theorem outB (c : Dev nD) (i : grid0.Coords) (arg1 : Memref sig .tc .vmem S24x5376 .bf16) (harg1 : arg1.IsWhole) (arg2 : Memref sig .tc .vmem S1x5376 .f32) (harg2 : arg2.IsWhole) (arg3 : Memref sig .tc .vmem S2688x768 .i8) (harg3 : arg3.IsWhole) (arg4 : Memref sig .tc .vmem S42x768 .bf16) (harg4 : arg4.IsWhole) (arg5 : Memref sig .tc .vmem S24x768 .bf16) (harg5 : arg5.IsWhole) (arg6 : Memref sig .tc .vmem S32x5376 .bf16) (harg6 : arg6.IsWhole) (hc0 : ¬cond0_0 i)
    (x0 : Vec F S24x5376 .bf16) (x1 : Vec F S1x5376 .f32) (x2 : Vec F S2688x768 .i8) (x3 : Vec F S42x768 .bf16) (xs0 : Vec F S32x5376 .bf16) :
   out0_B_4 c i arg1 harg1 arg2 harg2 arg3 harg3 arg4 harg4 arg5 harg5 arg6 harg6 hc0 x0 x1 x2 x3 xs0 = bodyOut xs0 x2 (View.ld x3 (Rect.unit (s := S42x768) ![0, 0] S42x768.size inb_S42x768_S42x768_0_0)) := by
  unfold out0_B_4; rw [View.read_writes_eq_canon _ _ _ (cover0_B_4 c i arg1 harg1 arg2 harg2 arg3 harg3 arg4 harg4 arg5 harg5 arg6 harg6 hc0 x0 x1 x2 x3 xs0)]
  unfold kernelRun0_B; dsimp only; sl_unfold_words
  simp only [View.readAt_eq_ld, harg1.read_unread, harg2.read_unread, harg3.read_unread, harg4.read_unread, harg6.read_unread]
  rw [View.canon_cons_unit_lit _ _ _ (by decide)]
  sl_kernel_rfl

end Cert.KernelIdeal.Hand

end
-- ==== Proof.Fold.lean ====
/- The output array after the run: block by block what the vocabulary of Vocab.lean says, the rotation being the first point's. -/
module

public import proofs.«01_k».proof.Proof.Open
public import Idealize.ShloMosaic.Lib.Claim

@[expose] public section

set_option maxRecDepth 16384

noncomputable section

namespace Cert.KernelIdeal.Hand

open Cert.KernelIdeal Cert.KernelIdeal.Gen Cert.KernelIdeal.Value Idealize.ShloMosaic Idealize.ShloMosaic.TcCoe

variable {F : FTy → Type} [FloatOps F]
variable (m : (ℓ : Loc nD τ sig) → Buf (Elt F) ℓ)

/-- The grid's first point. -/
abbrev t0 : Fin cfg0.N := ⟨0, by rw [show cfg0.N = 31 from N_0]; decide⟩

/-- At every point the scratch holds the rotation that the first point stored. -/
theorem scratch_eq (c : Dev nD) : ∀ (n : ℕ) (hn : n < cfg0.N), (outsAt0 m c n hn).2 = xrAll (iblk m c 0 t0) (iblk m c 1 t0)
  | 0, hn => by
    rw [outsAt0_A m c ⟨0, hn⟩ (Nat.zero_mod _)]
    dsimp only
    rw [soutA]
  | n + 1, hn => by
    have hN := lt_of_lt_of_eq hn (show cfg0.N = 31 from N_0)
    have h0 : ¬ (⟨n + 1, hn⟩ : Fin cfg0.N).val % 31 = 0 := by show ¬ (n + 1) % 31 = 0; omega
    rw [outsAt0_B m c ⟨n + 1, hn⟩ h0]
    exact scratch_eq c n (Nat.lt_of_succ_lt hn)

/-- What each point leaves in its output block. -/
theorem out_eq (c : Dev nD) (t : Fin cfg0.N) : (outsAt0 m c t.val t.isLt).1 =
    bodyOut (xrAll (iblk m c 0 t0) (iblk m c 1 t0)) (iblk m c 2 t)
      (View.ld (iblk m c 3 t) (Rect.unit (s := S42x768) ![0, 0] S42x768.size inb_S42x768_S42x768_0_0)) := by
  by_cases h0 : t.val % 31 = 0
  · have hN := lt_of_lt_of_eq t.isLt (show cfg0.N = 31 from N_0)
    obtain rfl : t = t0 := Fin.ext (by show t.val = 0; omega)
    rw [outsAt0_A m c t0 h0]
    dsimp only
    rw [outA_canon, soutA]
    rfl
  · rw [outsAt0_B m c t h0]
    dsimp only
    rw [outB, scratch_eq]
    rfl

/-- The output array at an index: its block's, at its place in the block. -/
theorem G4_eq (c : Dev nD) (b : Fin 24) (n : Fin 23808) : G4 m c (ix2 b n) =
    bodyOut (xrAll (iblk m c 0 t0) (iblk m c 1 t0)) (iblk m c 2 ⟨n.val / 768, by rw [show cfg0.N = 31 from N_0]; omega⟩)
      (View.ld (iblk m c 3 ⟨n.val / 768, by rw [show cfg0.N = 31 from N_0]; omega⟩) (Rect.unit (s := S42x768) ![0, 0] S42x768.size inb_S42x768_S42x768_0_0))
      (ix2 b ⟨n.val % 768, by omega⟩) := by
  have hb := b.isLt
  have hn := n.isLt
  have hp : pt4Of (ix2 b n) = n.val / 768 := by
    show 31 * (b.val / 24 - 0) + 1 * (n.val / 768 - 0) = n.val / 768; omega
  have hlt : pt4Of (ix2 b n) < cfg0.N := by rw [hp, show cfg0.N = 31 from N_0]; omega
  unfold G4
  rw [dif_pos hlt, ← outsAt0_sweep m c _ hlt]
  have ht : (⟨pt4Of (ix2 b n), hlt⟩ : Fin cfg0.N) = ⟨n.val / 768, by rw [show cfg0.N = 31 from N_0]; omega⟩ := Fin.ext hp
  have e := out_eq m c ⟨pt4Of (ix2 b n), hlt⟩
  rw [ht] at e
  have e' : (outsAt0 m c (pt4Of (ix2 b n)) hlt).1 = _ := (out_eq m c ⟨pt4Of (ix2 b n), hlt⟩)
  rw [e', ht]
  congr 1
  funext a; apply Fin.ext; fin_cases a
  · show b.val % 24 = b.val; omega
  · rfl

end Cert.KernelIdeal.Hand

end
-- ==== Proof.Blocks.lean ====
/- The input blocks read at an index: which elements of the argument arrays a grid point sees. -/
module

public import proofs.«01_k».proof.Proof.Fold
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen Cert.KernelIdeal.Value Idealize.ShloMosaic Idealize.ShloMosaic.TcCoe

variable (m : (ℓ : Loc nD τ sig) → Buf (Elt Ideal) ℓ)

/-- The blocks the index maps name. -/
theorem idx : ∀ t : Fin cfg0.N, win0_0.index t = ![0, 0] ∧ win0_1.index t = ![0, 0] ∧ win0_2.index t = ![0, t.val] ∧ win0_3.index t = ![0, t.val] := by
  decide +kernel

/-- Every point sees the whole array of activations. -/
theorem blk0 (c : Dev nD) (t : Fin cfg0.N) (b : Fin 24) (j : Fin 5376) :
    (iblk m c 0 t (ix2 b j) : EReal) = m ((c : Thread nD τ).loc main_arg0) (ix3 b 0 j) := by
  blk_ext! [iblk, V, idx t]

/-- Every point sees all the signs. -/
theorem blk1 (c : Dev nD) (t : Fin cfg0.N) (j : Fin 5376) :
    (iblk m c 1 t (ix2 0 j) : EReal) = m ((c : Thread nD τ).loc main_arg1) (ix1 j) := by
  blk_ext! [iblk, V, idx t]

/-- Point `t` sees columns `768 t` to `768 t + 767` of the packed weights. -/
theorem blk2 (c : Dev nD) (t : Fin cfg0.N) (k : Fin 2688) (n : Fin 768) (h : 768 * t.val + n.val < 23808) :
    (iblk m c 2 t (ix2 k n) : BitVec 8) = m ((c : Thread nD τ).loc main_arg2) (ix2 k ⟨768 * t.val + n.val, h⟩) := by
  blk_ext [iblk, V, idx t]

/-- Point `t` sees the same columns of the scales. -/
theorem blk3 (c : Dev nD) (t : Fin cfg0.N) (g : Fin 42) (n : Fin 768) (h : 768 * t.val + n.val < 23808) :
    (View.ld (iblk m c 3 t) (Rect.unit (s := S42x768) ![0, 0] S42x768.size inb_S42x768_S42x768_0_0) (ix2 g n) : EReal) =
      m ((c : Thread nD τ).loc main_arg3) (ix2 g ⟨768 * t.val + n.val, h⟩) := by
  show (iblk m c 3 t ((Rect.unit (s := S42x768) ![0, 0] S42x768.size inb_S42x768_S42x768_0_0).emb (ix2 g n)) : EReal) = _
  rw [show (Rect.unit (s := S42x768) ![0, 0] S42x768.size inb_S42x768_S42x768_0_0).emb (ix2 g n) = ix2 g n from by blk_ext []]
  blk_ext [iblk, V, idx t]

end Cert.KernelIdeal.Hand

end
-- ==== Proof.Finite.lean ====
/- What the precondition says of the activations and of the signs: each is a real number. -/
module

public import proofs.«01_k».proof.Pre_finite
public import Idealize.ShloMosaic.PureOps.Ideal
public import Idealize.ShloMosaic.Lib.ReduceAll
public import Idealize.ShloMosaic.Lib.Pointwise

@[expose] public section

noncomputable section

namespace Cert.Pre_finite.Hand

open Cert.Pre_finite Idealize.ShloMosaic

/-- The side conditions of the precondition's operations. -/
instance facts : Facts where
  bitsLt_bf16_f32 := by decide
  bcast_S_S24x1x5376 := by decide
  reducesTo_S24x1x5376_S_d0_1_2 := by decide
  h_S_ := by decide
  bcast_S_S5376 := by decide
  reducesTo_S5376_S_d0 := by decide

/-- The bound the precondition compares with is infinity. -/
theorem inf_word : (Ideal.ofBits FTy.f32 0x7F800000#32 : EReal) = ⊤ := by
  simp [Ideal.ofBits, Ideal.ieee]

/-- An extended real whose absolute value is below infinity is a real number. -/
theorem real_of_abs {e : EReal} (h : Ideal.cmp .olt (max e (-e)) (Ideal.ofBits FTy.f32 0x7F800000#32) = 1#1) : e = (e.toReal : EReal) := by
  rw [inf_word] at h
  have h : max e (-e) < ⊤ := by
    by_contra hn
    simp [Ideal.cmp, hn] at h
  rw [max_lt_iff] at h
  refine (EReal.coe_toReal h.1.ne ?_).symm
  rintro rfl
  exact absurd h.2 (by simp)

/-- Under the precondition every activation and every sign is a real number. -/
theorem reals (x : FVec Ideal S24x1x5376 .bf16) (s : FVec Ideal S5376 .f32) (w : IVec S2688x23808 8) (sc : FVec Ideal S42x23808 .bf16)
    (h : fn x s w sc = fun _ => 1#1) :
    (∀ i, (x i : EReal) = ((x i : EReal).toReal : EReal)) ∧ ∀ i, (s i : EReal) = ((s i : EReal).toReal : EReal) := by
  have e := congrFun h ix0
  dsimp only [fn] at e
  have hh : ∀ a b : BitVec 1, IntOp.andi a b = 1#1 → a = 1#1 ∧ b = 1#1 := by decide
  obtain ⟨e1, e2⟩ := hh _ _ e
  exact ⟨fun i => real_of_abs (Host.reduce_andi_all _ _ _ _ _ e1 i), fun i => real_of_abs (Host.reduce_andi_all _ _ _ _ _ e2 i)⟩

end Cert.Pre_finite.Hand

end
-- ==== Proof.Ref.lean ====
/- The reference's result read at an index. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem

variable {F : FTy → Type} [FloatOps F]

/-- The scaled Hadamard matrix. -/
def had : FVec F S128x128 .f32 :=
  mulf (sitofp .f32 (subi (broadcastInDim S128x128 ![] bcast_S_S128x128 (constantI S_ 32 1#32)) (muli (broadcastInDim S128x128 ![] bcast_S_S128x128 (constantI S_ 32 2#32)) (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))) (broadcastInDim S128x128 ![] bcast_S_S128x128 (constant S_ .f32 0x3DB504F3#32))

/-- The rotated activations. -/
def xrot (x : FVec F S24x1x5376 .bf16) (s : FVec F S5376 .f32) : FVec F S24x1x5376 .bf16 :=
  truncf .bf16 (shapeCast _ (Host.dotGeneral dot_S24x1x42x128_S128x128_S24x1x42x128_3_0_012_1_n_n (some .fp32) (shapeCast _ (mulf (extf .f32 x bitsLt_bf16_f32) (broadcastInDim S24x1x5376 ![0, 1, 2] bcast_S1x1x5376_S24x1x5376_0_1_2 (broadcastInDim S1x1x5376 ![2] bcast_S5376_S1x1x5376_2 s))) shapeCasts_S24x1x5376_S24x1x42x128) had) shapeCasts_S24x1x42x128_S24x1x5376) bitsLt_bf16_f32

/-- The low half-bytes as signed numbers. -/
def loCodes (w : IVec S2688x23808 8) : IVec S2688x23808 32 :=
  have f : IVec S2688x23808 32 := andi (extui 32 w natLt_8_32) (broadcastInDim S2688x23808 ![] bcast_S_S2688x23808 (constantI S_ 32 15#32))
  select (cmpi .sge f (broadcastInDim S2688x23808 ![] bcast_S_S2688x23808 (constantI S_ 32 8#32))) (subi f (broadcastInDim S2688x23808 ![] bcast_S_S2688x23808 (constantI S_ 32 16#32))) f

/-- The high half-bytes as signed numbers. -/
def hiCodes (w : IVec S2688x23808 8) : IVec S2688x23808 32 :=
  have f : IVec S2688x23808 32 := Host.shrsi (extui 32 w natLt_8_32) (broadcastInDim S2688x23808 ![] bcast_S_S2688x23808 (constantI S_ 32 4#32))
  select (cmpi .sge f (broadcastInDim S2688x23808 ![] bcast_S_S2688x23808 (constantI S_ 32 8#32))) (subi f (broadcastInDim S2688x23808 ![] bcast_S_S2688x23808 (constantI S_ 32 16#32))) f

/-- One half of the weights: the codes times their groups' scales. -/
def dequant (q : IVec S2688x23808 32) (s : FVec F S21x23808 .bf16) : FVec F S2688x23808 .bf16 :=
  shapeCast _ (mulf (shapeCast _ (sitofp .bf16 q : FVec F S2688x23808 .bf16) shapeCasts_S2688x23808_S21x128x23808) (broadcastInDim S21x128x23808 ![0, 1, 2] bcast_S21x1x23808_S21x128x23808_0_1_2 (broadcastInDim S21x1x23808 ![0, 2] bcast_S21x23808_S21x1x23808_0_2 s))) shapeCasts_S21x128x23808_S2688x23808

/-- The reference's result as a function of its arguments. -/
def refOf (x : FVec F S24x1x5376 .bf16) (s : FVec F S5376 .f32) (w : IVec S2688x23808 8) (sc : FVec F S42x23808 .bf16) : FVec F S24x23808 .bf16 :=
  shapeCast _ (truncf .bf16 (addf
    (Host.dotGeneral dot_S24x1x2688_S2688x23808_S24x1x23808_2_0_01_1_n_n none (extractStridedSlice S24x1x2688 ![0, 0, 0] (xrot x s) slices_S24x1x5376_S24x1x2688_0_0_0) (dequant (loCodes w) (extractStridedSlice S21x23808 ![0, 0] sc slices_S42x23808_S21x23808_0_0)))
    (Host.dotGeneral dot_S24x1x2688_S2688x23808_S24x1x23808_2_0_01_1_n_n none (extractStridedSlice S24x1x2688 ![0, 0, 2688] (xrot x s) slices_S24x1x5376_S24x1x2688_0_0_2688) (dequant (hiCodes w) (extractStridedSlice S21x23808 ![21, 0] sc slices_S42x23808_S21x23808_21_0))))
    bitsLt_bf16_f32) shapeCasts_S24x1x23808_S24x23808

/-- The generated run's result is that function of the argument arrays. -/
theorem res_eq (m : (ℓ : Loc nD τ sig) → Buf (Elt F) ℓ) (c : Dev nD) : res_main_v59 m c =
    refOf (m ((c.tc : Thread nD τ).loc main_arg0)) (m ((c.tc : Thread nD τ).loc main_arg1)) (m ((c.tc : Thread nD τ).loc main_arg2)) (m ((c.tc : Thread nD τ).loc main_arg3)) := rfl

/-- The entry's word before its scale: one minus twice the parity of the common bits. -/
def hadWord (i k : ℕ) : BitVec 32 :=
  IntOp.subi (1#32) (IntOp.muli (2#32) (IntOp.andi (IntOp.ctpop (IntOp.andi (BitVec.ofNat 32 i) (BitVec.ofNat 32 k))) 1#32))

/-- The low half of a byte as a signed number. -/
def loOf (w : BitVec 8) : BitVec 32 :=
  Scalar.select (IntOp.cmpi CmpIPredicate.sge (IntOp.andi (BitVec.setWidth 32 w) 15#32) 8#32)
    (IntOp.subi (IntOp.andi (BitVec.setWidth 32 w) 15#32) 16#32) (IntOp.andi (BitVec.setWidth 32 w) 15#32)

/-- The high half of a byte as a signed number. -/
def hiOf (w : BitVec 8) : BitVec 32 :=
  Scalar.select (IntOp.cmpi CmpIPredicate.sge (IntOp.shrsi ArithUnit.host (BitVec.setWidth 32 w) 4#32) 8#32)
    (IntOp.subi (IntOp.shrsi ArithUnit.host (BitVec.setWidth 32 w) 4#32) 16#32) (IntOp.shrsi ArithUnit.host (BitVec.setWidth 32 w) 4#32)

/-- An entry of the scaled Hadamard matrix. -/
theorem had_apply (i k : Fin 128) : (had (F := Ideal) (ix2 i k) : EReal) =
    (((hadWord i k).toInt : ℝ) : EReal) * Ideal.ofBits FTy.f32 1035273459#32 := by
  pointwise [had]
  rfl

/-- An entry of the rotated activations: its group of 128 against one column of the matrix. -/
theorem xrot_apply (x : FVec Ideal S24x1x5376 .bf16) (s : FVec Ideal S5376 .f32) (b : Fin 24) (j : Fin 5376) :
    (xrot x s (ix3 b 0 j) : EReal) = ∑ i : Fin 128,
      (x (ix3 b 0 ⟨j / 128 * 128 + i, by omega⟩) * s (ix1 ⟨j / 128 * 128 + i, by omega⟩) : EReal) * had (F := Ideal) (ix2 i ⟨j % 128, by omega⟩) := by
  pointwise [xrot]

/-- A low code at an index. -/
theorem loCodes_apply (w : IVec S2688x23808 8) (k : Fin 2688) (n : Fin 23808) : loCodes w (ix2 k n) = loOf (w (ix2 k n)) := by
  pointwise [loCodes]
  rfl

/-- A high code at an index. -/
theorem hiCodes_apply (w : IVec S2688x23808 8) (k : Fin 2688) (n : Fin 23808) : hiCodes w (ix2 k n) = hiOf (w (ix2 k n)) := by
  pointwise [hiCodes]
  rfl

/-- An entry of one half of the weights: its code times its group's scale. -/
theorem dequant_apply (q : IVec S2688x23808 32) (s : FVec Ideal S21x23808 .bf16) (k : Fin 2688) (n : Fin 23808) :
    (dequant q s (ix2 k n) : EReal) = (((q (ix2 k n)).toInt : ℝ) : EReal) * s (ix2 ⟨k / 128, by omega⟩ n) := by
  pointwise [dequant]
  rfl

/-- The two halves of the scales. -/
theorem scales_apply (sc : FVec Ideal S42x23808 .bf16) (g : Fin 21) (n : Fin 23808) :
    extractStridedSlice S21x23808 ![0, 0] sc slices_S42x23808_S21x23808_0_0 (ix2 g n) = sc (ix2 ⟨g, by omega⟩ n) ∧
    extractStridedSlice S21x23808 ![21, 0] sc slices_S42x23808_S21x23808_21_0 (ix2 g n) = sc (ix2 ⟨21 + g, by omega⟩ n) := by
  constructor <;> pointwise

/-- The reference's result at an index: the sums over the two halves of the contracted axis. -/
theorem refOf_apply (x : FVec Ideal S24x1x5376 .bf16) (s : FVec Ideal S5376 .f32) (w : IVec S2688x23808 8) (sc : FVec Ideal S42x23808 .bf16)
    (b : Fin 24) (n : Fin 23808) : (refOf x s w sc (ix2 b n) : EReal) =
    (∑ k : Fin 2688, (xrot x s (ix3 b 0 ⟨k, by omega⟩) : EReal) * ((((loOf (w (ix2 k n))).toInt : ℝ) : EReal) * sc (ix2 ⟨k / 128, by omega⟩ n))) +
    ∑ k : Fin 2688, (xrot x s (ix3 b 0 ⟨2688 + k, by omega⟩) : EReal) * ((((hiOf (w (ix2 k n))).toInt : ℝ) : EReal) * sc (ix2 ⟨21 + k / 128, by omega⟩ n)) := by
  pointwise [refOf]
  simp only [dequant_apply, loCodes_apply, hiCodes_apply, (scales_apply sc _ n).1, (scales_apply sc _ n).2]

end Cert.ReferenceIdeal.Hand

end
-- ==== Proof.Equal.lean ====
/- The kernel's result is the reference's: the rotation entry by entry, then the two sums over the contracted axis. -/
module

public import proofs.«01_k».proof.Proof.Index
public import proofs.«01_k».proof.Proof.Blocks
public import proofs.«01_k».proof.Proof.Finite
public import proofs.«01_k».proof.Proof.Ref

@[expose] public section

set_option maxRecDepth 16384

noncomputable section

namespace Cert.KernelIdeal.Hand

open Cert.KernelIdeal Cert.KernelIdeal.Gen Cert.KernelIdeal.Value Idealize.ShloMosaic Idealize.ShloMosaic.TcCoe

/-! ## The codes -/

/-- The low half-byte is one number in both programs. -/
theorem code_lo : ∀ w : BitVec 8, (codeOf w false).toInt = (Cert.ReferenceIdeal.Hand.loOf w).toInt := by decide +kernel

/-- The high half-byte is one number in both programs. -/
theorem code_hi : ∀ w : BitVec 8, (codeOf w true).toInt = (Cert.ReferenceIdeal.Hand.hiOf w).toInt := by decide +kernel

/-! ## The rotation -/

/-- The Hadamard scale is a real number. -/
theorem cst_real : ∃ c : ℝ, cst = (c : EReal) := by
  refine ⟨cst.toReal, (EReal.coe_toReal ?_ ?_).symm⟩ <;> simp [cst, Ideal.ofBits, Ideal.ieee, -EReal.coe_mul]

/-- A scale outside a finite sum of real products goes inside. -/
theorem scale_sum (X w : Fin 128 → ℝ) (c : ℝ) :
    (∑ i, (X i : EReal) * (w i : EReal)) * (c : EReal) = ∑ i, (X i : EReal) * ((w i : EReal) * (c : EReal)) := by
  have hs : ∀ f : Fin 128 → ℝ, ∑ i, ((f i : ℝ) : EReal) = ((∑ i, f i : ℝ) : EReal) := fun f =>
    (map_sum (⟨⟨Real.toEReal, EReal.coe_zero⟩, EReal.coe_add⟩ : ℝ →+ EReal) f Finset.univ).symm
  simp only [← EReal.coe_mul, hs, Finset.sum_mul, mul_assoc]

/-- 128 columns of the activations, read at an index. -/
theorem ld_x (x0 : Vec Ideal S24x5376 .bf16) (o : ℕ) (h) (b : Fin 24) (q : Fin 128) (ho : o + 128 ≤ 5376) :
    View.ld x0 (Rect.unit (s := S24x5376) ![0, o] S24x128.size h) (ix2 b q) = x0 (ix2 b ⟨o + q.val, by omega⟩) := by
  refine congrArg x0 (funext fun a => Fin.ext ?_)
  fin_cases a
  · show 0 + 1 * b.val = b.val; omega
  · show o + 1 * q.val = o + q.val; omega

/-- 128 of the signs, read at an index. -/
theorem ld_s (x1 : Vec Ideal S1x5376 .f32) (o : ℕ) (h) (q : Fin 128) (ho : o + 128 ≤ 5376) :
    View.ld x1 (Rect.unit (s := S1x5376) ![0, o] S1x128.size h) (ix2 0 q) = x1 (ix2 0 ⟨o + q.val, by omega⟩) := by
  refine congrArg x1 (funext fun a => Fin.ext ?_)
  fin_cases a
  · rfl
  · show o + 1 * q.val = o + q.val; omega

/-- The stored rotation at column `256 g + 2 k + p`: column `k` of block `21 p + g`. -/
theorem xrAll_apply (x0 : Vec Ideal S24x5376 .bf16) (x1 : Vec Ideal S1x5376 .f32) (X : Fin 5376 → ℝ) (b : Fin 24)
    (hX : ∀ j, (x0 (ix2 b j) * x1 (ix2 0 j) : EReal) = (X j : EReal)) (g : Fin 21) (k : Fin 128) (p : ℕ) (hp : p < 2)
    (j : Fin 5376) (hj : j.val = 256 * g.val + (2 * k.val + p)) :
    (xrAll x0 x1 (ix2 ⟨b.val, by omega⟩ j) : EReal) =
      (∑ i : Fin 128, (X ⟨2688 * p + 128 * g.val + i.val, by have := g.isLt; have := i.isLt; interval_cases p <;> omega⟩ : EReal) *
        (((hadW i.val k.val).toInt : ℝ) : EReal)) * cst := by
  have hg := g.isLt
  have hk := k.isLt
  have e := xrAll_emb x0 x1 g.val hg (inb_xr g.val hg) (ix2 ⟨b.val, by omega⟩ ⟨2 * k.val + p, by omega⟩)
  rw [show (Rect.unit (s := S32x5376) ![0, 256 * g.val] S32x256.size (inb_xr g.val hg)).emb (ix2 ⟨b.val, by omega⟩ ⟨2 * k.val + p, by omega⟩)
    = ix2 ⟨b.val, by omega⟩ j from by blk_ext []] at e
  rw [e]
  unfold rotAt
  rw [rot_apply _ _ ⟨b.val, by omega⟩ ⟨2 * k.val + p, by omega⟩
    (fun i => X ⟨2688 * (i.val / 128) + 128 * g.val + i.val % 128, by have := i.isLt; omega⟩) ?_]
  · rw [sum_had _ k p hp _ rfl]
    congr 1
    refine Finset.sum_congr rfl fun i _ => ?_
    have hi := i.isLt
    congr 3
    apply Fin.ext
    show 2688 * ((128 * p + i.val) / 128) + 128 * g.val + (128 * p + i.val) % 128 = 2688 * p + 128 * g.val + i.val
    interval_cases p <;> omega
  · intro i
    have hi := i.isLt
    rw [pay3_apply _ _ _ _ _ b.isLt]
    split
    · rename_i h
      rw [ld_x _ _ _ _ _ (by omega), ld_s _ _ _ _ (by omega), hX]
      congr 2
      apply Fin.ext
      show 128 * g.val + i.val = 2688 * (i.val / 128) + 128 * g.val + i.val % 128
      omega
    · rename_i h
      rw [ld_x _ _ _ _ _ (by omega), ld_s _ _ _ _ (by omega), hX]
      congr 2
      apply Fin.ext
      show 2688 + 128 * g.val + (i.val - 128) = 2688 * (i.val / 128) + 128 * g.val + i.val % 128
      omega

/-- The same entry of the reference's rotation. -/
theorem xrot_eq (x : FVec Ideal Cert.ReferenceIdeal.S24x1x5376 .bf16) (s : FVec Ideal Cert.ReferenceIdeal.S5376 .f32) (X : Fin 5376 → ℝ) (b : Fin 24)
    (hX : ∀ j, (x (ix3 b 0 j) * s (ix1 j) : EReal) = (X j : EReal)) (g : Fin 21) (k : Fin 128) (p : ℕ) (hp : p < 2)
    (j : Fin 5376) (hj : j.val = 2688 * p + (128 * g.val + k.val)) :
    (Cert.ReferenceIdeal.Hand.xrot x s (ix3 b 0 j) : EReal) =
      (∑ i : Fin 128, (X ⟨2688 * p + 128 * g.val + i.val, by have := g.isLt; have := i.isLt; interval_cases p <;> omega⟩ : EReal) *
        (((hadW i.val k.val).toInt : ℝ) : EReal)) * cst := by
  have hg := g.isLt
  have hk := k.isLt
  obtain ⟨c, hc⟩ := cst_real
  rw [hc, scale_sum, Cert.ReferenceIdeal.Hand.xrot_apply]
  refine Finset.sum_congr rfl fun i _ => ?_
  rw [hX, Cert.ReferenceIdeal.Hand.had_apply, ← hc]
  have e1 : j.val / 128 * 128 + i.val = 2688 * p + 128 * g.val + i.val := by interval_cases p <;> omega
  have e2 : j.val % 128 = k.val := by interval_cases p <;> omega
  simp only [e1, e2]
  rfl

/-! ## The sums -/

/-- A sum over 256 rows, row pair by row pair. -/
theorem sum_pairs (f : Fin 256 → EReal) : ∑ k, f k = ∑ k : Fin 128, (f ⟨2 * k.val, by omega⟩ + f ⟨2 * k.val + 1, by omega⟩) := by
  rw [← (finProdFinEquiv (m := 128) (n := 2)).sum_comp, Fintype.sum_prod_type]
  refine Finset.sum_congr rfl fun k _ => ?_
  rw [Fin.sum_univ_two]
  congr 2 <;> apply Fin.ext <;> simp [finProdFinEquiv] <;> omega

/-- A sum over 2688 rows, group by group. -/
theorem sum_groups (f : Fin 2688 → EReal) : ∑ k, f k = ∑ g : Fin 21, ∑ k : Fin 128, f ⟨128 * g.val + k.val, by omega⟩ := by
  rw [← (finProdFinEquiv (m := 21) (n := 128)).sum_comp, Fintype.sum_prod_type]
  refine Finset.sum_congr rfl fun g _ => Finset.sum_congr rfl fun k _ => ?_
  congr 1
  apply Fin.ext
  simp [finProdFinEquiv]
  omega

/-! ## The result -/

variable (m : (ℓ : Loc nD τ sig) → Buf (Elt Ideal) ℓ)

/-- One summand of the kernel at row `2 k + p` of group `g` is the reference's at row `128 g + k` of half `p`. -/
theorem term_eq (c : Dev nD) (xr : Fin 5376 → EReal) (t : Fin cfg0.N) (n : Fin 23808) (j : Fin 768) (hn : n.val = 768 * t.val + j.val)
    (g : Fin 21) (k : Fin 128) (p : ℕ) (hp : p < 2) (q : Fin 256) (hq : q.val = 2 * k.val + p) (a : EReal)
    (ha : a = xr ⟨2688 * p + (128 * g.val + k.val), by have := g.isLt; have := k.isLt; interval_cases p <;> omega⟩) :
    a * ((((codeOf (iblk m c 2 t (ix2 ⟨128 * g.val + q.val / 2, by omega⟩ j)) (decide (q.val % 2 = 1))).toInt : ℝ) : EReal) *
      (View.ld (iblk m c 3 t) (Rect.unit (s := S42x768) ![0, 0] S42x768.size inb_S42x768_S42x768_0_0) (ix2 ⟨g.val + 21 * (q.val % 2), by omega⟩ j) : EReal)) =
    xr ⟨2688 * p + (128 * g.val + k.val), by have := g.isLt; have := k.isLt; interval_cases p <;> omega⟩ *
      ((((codeOf (m ((c : Thread nD τ).loc main_arg2) (ix2 ⟨128 * g.val + k.val, by omega⟩ n)) (decide (p = 1))).toInt : ℝ) : EReal) *
        (m ((c : Thread nD τ).loc main_arg3) (ix2 ⟨21 * p + (128 * g.val + k.val) / 128, by omega⟩ n) : EReal)) := by
  have hnl := n.isLt
  have e1 : q.val / 2 = k.val := by omega
  have e2 : q.val % 2 = p := by omega
  have e3 : (128 * g.val + k.val) / 128 = g.val := by omega
  subst ha
  rw [blk2 m c t _ j (by omega), blk3 m c t _ j (by omega)]
  have en : (⟨768 * t.val + j.val, by omega⟩ : Fin 23808) = n := Fin.ext hn.symm
  simp only [en, e1, e2, e3, Nat.add_comm g.val]

/-- The kernel's result at an index is the reference's of the same arguments. -/
theorem result_apply (c : Dev nD)
    (hx : ∀ i, (m ((c : Thread nD τ).loc main_arg0) i : EReal) = ((m ((c : Thread nD τ).loc main_arg0) i : EReal).toReal : EReal))
    (hs : ∀ i, (m ((c : Thread nD τ).loc main_arg1) i : EReal) = ((m ((c : Thread nD τ).loc main_arg1) i : EReal).toReal : EReal))
    (b : Fin 24) (n : Fin 23808) : (G4 m c (ix2 b n) : EReal) =
      Cert.ReferenceIdeal.Hand.refOf (F := Ideal) (m ((c : Thread nD τ).loc main_arg0)) (m ((c : Thread nD τ).loc main_arg1))
        (m ((c : Thread nD τ).loc main_arg2)) (m ((c : Thread nD τ).loc main_arg3)) (ix2 b n) := by
  refine ((G4_eq m c b n).trans (bodyOut_apply _ _ _ b _)).trans (Eq.trans ?_ (Cert.ReferenceIdeal.Hand.refOf_apply _ _ _ _ b n).symm)
  refine Eq.trans (b := (∑ g : Fin 21, ∑ k : Fin 128, _ : EReal)) ?_
    (((congrArg₂ (fun u v : EReal => u + v) (sum_groups _) (sum_groups _)).trans Finset.sum_add_distrib.symm).trans
      (Finset.sum_congr rfl fun g _ => Finset.sum_add_distrib.symm)).symm
  refine Finset.sum_congr rfl fun g _ => (sum_pairs _).trans (Finset.sum_congr rfl fun k _ => ?_)
  have hg := g.isLt
  have hk := k.isLt
  have hX : ∀ j, @HMul.hMul EReal EReal EReal instHMul (m ((c : Thread nD τ).loc main_arg0) (ix3 b 0 j)) (m ((c : Thread nD τ).loc main_arg1) (ix1 j)) =
      (((m ((c : Thread nD τ).loc main_arg0) (ix3 b 0 j) : EReal).toReal * (m ((c : Thread nD τ).loc main_arg1) (ix1 j) : EReal).toReal : ℝ) : EReal) :=
    fun j => (congrArg₂ (fun u v : EReal => u * v) (hx _) (hs _)).trans (EReal.coe_mul _ _).symm
  have hX' : ∀ j, @HMul.hMul EReal EReal EReal instHMul (iblk m c 0 t0 (ix2 b j)) (iblk m c 1 t0 (ix2 0 j)) =
      (((m ((c : Thread nD τ).loc main_arg0) (ix3 b 0 j) : EReal).toReal * (m ((c : Thread nD τ).loc main_arg1) (ix1 j) : EReal).toReal : ℝ) : EReal) :=
    fun j => (congrArg₂ (fun u v : EReal => u * v) (blk0 m c t0 b j) (blk1 m c t0 j)).trans (hX j)
  have hrot : ∀ (p : ℕ) (hp : p < 2) (j j' : Fin 5376), j.val = 256 * g.val + (2 * k.val + p) → j'.val = 2688 * p + (128 * g.val + k.val) →
      (xrAll (iblk m c 0 t0) (iblk m c 1 t0) (ix2 ⟨b.val, by omega⟩ j) : EReal) =
        Cert.ReferenceIdeal.Hand.xrot (F := Ideal) (m ((c : Thread nD τ).loc main_arg0)) (m ((c : Thread nD τ).loc main_arg1)) (ix3 b 0 j') :=
    fun p hp j j' hj hj' => (xrAll_apply _ _ _ b hX' g k p hp j hj).trans (xrot_eq _ _ _ b hX g k p hp j' hj').symm
  have hn : n.val = 768 * (n.val / 768) + n.val % 768 := by omega
  congr 1
  · refine (term_eq m c (fun j' => Cert.ReferenceIdeal.Hand.xrot (F := Ideal) (m ((c : Thread nD τ).loc main_arg0)) (m ((c : Thread nD τ).loc main_arg1)) (ix3 b 0 j'))
      _ n _ hn g k 0 (by omega) ⟨2 * k.val, by omega⟩ rfl _ (hrot 0 (by omega) _ _ rfl rfl)).trans ?_
    rw [show decide ((0 : ℕ) = 1) = false from rfl, code_lo]
    simp only [Nat.mul_zero, Nat.zero_add]
  · refine (term_eq m c (fun j' => Cert.ReferenceIdeal.Hand.xrot (F := Ideal) (m ((c : Thread nD τ).loc main_arg0)) (m ((c : Thread nD τ).loc main_arg1)) (ix3 b 0 j'))
      _ n _ hn g k 1 (by omega) ⟨2 * k.val + 1, by omega⟩ rfl _ (hrot 1 (by omega) _ _ rfl rfl)).trans ?_
    rw [show decide ((1 : ℕ) = 1) = true from rfl, code_hi]

/-- The kernel's result is the reference's of the same arguments. -/
theorem result_eq (c : Dev nD)
    (hx : ∀ i, (m ((c : Thread nD τ).loc main_arg0) i : EReal) = ((m ((c : Thread nD τ).loc main_arg0) i : EReal).toReal : EReal))
    (hs : ∀ i, (m ((c : Thread nD τ).loc main_arg1) i : EReal) = ((m ((c : Thread nD τ).loc main_arg1) i : EReal).toReal : EReal)) :
    Cert.ReferenceIdeal.Hand.refOf (F := Ideal) (m ((c : Thread nD τ).loc main_arg0)) (m ((c : Thread nD τ).loc main_arg1))
      (m ((c : Thread nD τ).loc main_arg2)) (m ((c : Thread nD τ).loc main_arg3)) = G4 m c := by
  funext i
  have e : i = ix2 ⟨(i 0).val, (i 0).isLt⟩ ⟨(i 1).val, (i 1).isLt⟩ := by funext a; fin_cases a <;> rfl
  rw [e]
  exact (result_apply m c hx hs _ _).symm

end Cert.KernelIdeal.Hand

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equal
public import Idealize.ShloMosaic.PureOps.IdealRules
public import Idealize.ShloMosaic.Lib.Bf16Pair
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The kernel and the reference end with one result. -/
theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3⟩ := hagree c
  obtain ⟨hx, hs⟩ := Cert.Pre_finite.Hand.reals _ _ _ _ (hpre c)
  rw [Cert.ReferenceIdeal.Hand.res_eq, h0, h1, h2, h3]
  exact Cert.KernelIdeal.Hand.result_eq m c hx hs

theorem claim : Cert.Claim := ⟨Cert.Kernel.Gen.facts, Cert.KernelIdeal.Gen.facts, Cert.ReferenceIdeal.Gen.facts, Cert.Pre_finite.Hand.facts,
  frame_kernel,
  fun m ρ _ => Cert.KernelIdeal.Gen.frame m ρ,
  fun m ρ _ => Cert.KernelIdeal.Gen.frame m ρ,
  frame_reference,
  fun m ρ _ => frame_reference m ρ trivial,
  ⟨IdealRules.bf16_pair.packStatement Cert.KernelIdeal.S21x768,
    IdealRules.bf16_pair.statement Cert.KernelIdeal.S256x768 Cert.KernelIdeal.S128x768⟩,
  algebraic⟩

end Cert.Proof

end
